-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![256, 512]⟩ ⟨2, ![512, 512]⟩ (Layout.meshBlock [2, 2, 2] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![512, 256]⟩ ⟨2, ![512, 512]⟩ (Layout.meshBlock [2, 2, 2] ![[], [0]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S256x512 : Shape := ⟨2, ![256, 512]⟩
abbrev S512x256 : Shape := ⟨2, ![512, 256]⟩
abbrev S256x256 : Shape := ⟨2, ![256, 256]⟩
abbrev S_ : Shape := ⟨0, ![]⟩

abbrev nBuf : Space → Nat
  | .hbm => 2
  | .vmem => 3
  | .smem => 0
  | _ => 0

abbrev bufTy : (tb : Table) → Fin (tcTables nBuf tb) → BufTy
  | .hbm, ⟨0, _⟩ => ⟨S256x512, .bf16⟩
  | .hbm, ⟨1, _⟩ => ⟨S512x256, .bf16⟩
  | .local _ .vmem, ⟨0, _⟩ => ⟨S256x512, .bf16⟩
  | .local _ .vmem, ⟨1, _⟩ => ⟨S512x256, .bf16⟩
  | .local _ .vmem, ⟨2, _⟩ => ⟨S256x256, .bf16⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 2 → Nat :=
  let c0 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c256_i32 : BitVec 32 := 256#32
  let v17 : BitVec 32 := Scalar.muli v9 c256_i32
  let v18 : Index := Scalar.indexCast v17
  ![0, v18.toNat]
def k0_off2 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32_11 : BitVec 32 := 256#32
  let v24 : BitVec 32 := Scalar.muli v2 c256_i32_11
  let c0_i32_16 : BitVec 32 := 0#32
  ![v24.toNat, 0]
def k0_dev2 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v25 : BitVec 32 := Scalar.muli v9 c4_i32_12
  let v26 : BitVec 32 := Scalar.addi c0_i32_13 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v27 : BitVec 32 := Scalar.muli v5 c2_i32_14
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v29 : BitVec 32 := Scalar.muli v8 c1_i32_15
  let v30 : BitVec 32 := Scalar.addi v28 v29
  v30.toNat
def k0_off3 (d0 : Dev nD) : Fin 2 → Nat :=
  let c0_18 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32_17 : BitVec 32 := 256#32
  let v32 : BitVec 32 := Scalar.muli v2 c256_i32_17
  let v33 : Index := Scalar.indexCast v32
  ![0, v33.toNat]
def k0_off4 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32_19 : BitVec 32 := 256#32
  let v36 : BitVec 32 := Scalar.muli v2 c256_i32_19
  let v37 : Index := Scalar.indexCast v36
  let c0_20 : Index := 0#32
  ![v37.toNat, 0]
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Swap.Blocks.lean ====
/-
The mathematics of the exchange, without any program.

A 512 x 512 array lies on the 2 x 2 x 2 mesh cut by rows into two blocks of 256 x 512: device `c` holds block `c / 4`.
After the exchange it lies cut by columns into two blocks of 512 x 256: device `c` holds block `c / 4` again. Each device
makes its new block of two squares, one of its own old block and one of its partner's, the device whose first mesh
coordinate is the other one.
-/
module

public import Idealize.ShloMosaic.Lib.Layout

@[expose] public section

namespace Cert.Swap

open Idealize.ShloMosaic

/-- The block a device holds before the exchange: half of the rows, every column. -/
abbrev RowBlock : Shape := ⟨2, ![256, 512]⟩
/-- The block a device holds after it: every row, half of the columns. -/
abbrev ColBlock : Shape := ⟨2, ![512, 256]⟩
/-- The whole array. -/
abbrev Entire : Shape := ⟨2, ![512, 512]⟩

set_option backward.proofsInPublic true in
/-- The device across the first mesh axis: four further on, around the eight. -/
def partner (c : Fin 8) : Fin 8 := ⟨(c.val + 4) % 8, Nat.mod_lt _ (by decide)⟩

/-- The partner's partner is the device itself. -/
theorem partner_partner (c : Fin 8) : partner (partner c) = c := by revert c; decide

/-- A device and its partner are the two different blocks of the first mesh axis. -/
theorem partner_block (c : Fin 8) : (partner c).val / 4 = 1 - c.val / 4 := by revert c; decide

/-- Every device's block number is 0 or 1. -/
theorem block_lt (c : Fin 8) : c.val / 4 < 2 := by omega

/-- Of a device and its partner, the one that held row `i` before the exchange. -/
def holder (c : Fin 8) (i : ℕ) : Fin 8 := if i / 256 = c.val / 4 then c else partner c

set_option backward.proofsInPublic true in
/-- Where, within the holder's block, the element lies that `c` puts at `k`: the row counted within the block, the
    column moved to the half of the columns that `c` receives. -/
def source (c : Fin 8) (k : ColBlock.Idx) : RowBlock.Idx
  | ⟨0, _⟩ => ⟨(k 0).val % 256, Nat.mod_lt _ (by decide)⟩
  | ⟨1, _⟩ => ⟨256 * (c.val / 4) + (k 1).val, by
      have hk : (k 1).val < 256 := (k 1).isLt
      have hc := block_lt c
      show 256 * (c.val / 4) + (k 1).val < 512
      omega⟩

variable {α : Type}

/-- What device `c` holds after the exchange of the blocks `x`. -/
def exchanged (x : Fin 8 → RowBlock.Idx → α) (c : Fin 8) : ColBlock.Idx → α :=
  fun k => x (holder c (k 0).val) (source c k)

/-- On the rows a device held itself, the exchanged block is its own square. -/
theorem exchanged_own (x : Fin 8 → RowBlock.Idx → α) (c : Fin 8) (k : ColBlock.Idx) (h : (k 0).val / 256 = c.val / 4) :
    exchanged x c k = x c (source c k) := by
  unfold exchanged holder; rw [if_pos h]

/-- On the other rows it is the partner's square. -/
theorem exchanged_other (x : Fin 8 → RowBlock.Idx → α) (c : Fin 8) (k : ColBlock.Idx)
    (h : (k 0).val / 256 = (partner c).val / 4) : exchanged x c k = x (partner c) (source c k) := by
  have := partner_block c
  have := block_lt c
  unfold exchanged holder; rw [if_neg (by omega)]

/-- The block number along the first mesh axis, as the layout counts it. -/
theorem axis0 (c : Fin 8) : Layout.meshLin [2, 2, 2] c.val [0] = c.val / 4 := by revert c; decide

/-- Exchanging the row blocks of an array gives its column blocks. -/
theorem exchanged_blocks (X : Entire.Idx → α) (c : Fin 8) :
    exchanged (fun d => Layout.blockN RowBlock Entire (Layout.meshBlock [2, 2, 2] ![[0], []] d) X) c
      = Layout.blockN ColBlock Entire (Layout.meshBlock [2, 2, 2] ![[], [0]] c) X := by
  have hp := partner_block c
  have hc := block_lt c
  funext k
  have hk : (k 0).val < 512 := (k 0).isLt
  have hh : (holder c (k 0).val).val / 4 = (k 0).val / 256 := by
    unfold holder
    split
    · omega
    · omega
  show X _ = X _
  congr 1
  funext a
  apply Fin.ext
  rw [Layout.TilesN.idx_val, Layout.TilesN.idx_val, Layout.meshBlock_val, Layout.meshBlock_val]
  fin_cases a
  · show Layout.meshLin [2, 2, 2] (holder c (k 0).val).val [0] * 256 + (k 0).val % 256 = 0 * 512 + (k 0).val
    rw [axis0, hh]
    omega
  · show 0 * 512 + (256 * (c.val / 4) + (k 1).val) = Layout.meshLin [2, 2, 2] c.val [0] * 256 + (k 1).val
    rw [axis0]
    omega

end Cert.Swap
-- ==== Proof.Swap.KernelIdeal.Places.lean ====
/-
The buffers of the kernel, the two halves of its result buffer, and what the kernel's reads and writes make of them.

Device `c` receives in the rows of the result buffer that its partner held before, and stores its own square in the rows it
held itself. The two sets of rows are disjoint and make up the buffer, so that each can be owned by itself: the first is lent
to the partner, who writes it from afar, while the second stays.
-/
module

public import proofs.«01_k».proof.Proof.Swap.Blocks
public import proofs.«01_k».proof.Proof.Gen.KernelIdeal
public import proofs.«01_k».proof.Proof.Gen.KernelIdeal.Skeleton
public import Idealize.ShloMosaic.Lib.Pipeline.Kit
public import Idealize.ShloMosaic.Lib.Pipeline.Value

@[expose] public section

noncomputable section

namespace Cert.Swap.KernelIdeal

open Cert.KernelIdeal Cert.KernelIdeal.Gen
open Idealize.ShloMosaic Idealize.ShloMosaic.TcCoe

variable {F : FTy → Type} [FloatOps F]

/-! ## The devices addressed -/

/-- The signal goes to the partner. -/
theorem signalled (c : Dev nD) : (⟨k0_dev1 c, k0_dev1_lt c⟩ : Dev nD) = partner c := by revert c; decide +kernel
/-- The transfer goes to the partner. -/
theorem addressed (c : Dev nD) : (⟨k0_dev2 c, k0_dev2_lt c⟩ : Dev nD) = partner c := by revert c; decide +kernel

/-! ## The buffers -/

/-- The staged block of the argument. -/
abbrev xBuf : Memref sig .tc .vmem S256x512 .bf16 := Memref.whole cc0_stg0_0
/-- The staged block of the result. -/
abbrev oBuf : Memref sig .tc .vmem S512x256 .bf16 := Memref.whole cc0_stg1_0
/-- The square to be sent. -/
abbrev sBuf : Memref sig .tc .vmem S256x256 .bf16 := Memref.whole cc0_scratch0

/-- The square of the argument that device `c` sends. -/
abbrev sentRect (c : Dev nD) : Rect S256x512 := Rect.unit (k0_off1 c) S256x256.size (k0_off1_inb c)
/-- The square of the argument that it keeps. -/
abbrev keptRect (c : Dev nD) : Rect S256x512 := Rect.unit (k0_off3 c) S256x256.size (k0_off3_inb c)
/-- The square of its own result in which it puts the one it keeps. -/
abbrev storeRect (c : Dev nD) : Rect S512x256 := Rect.unit (k0_off4 c) S256x256.size (k0_off4_inb c)
/-- The square of the partner's result that the transfer fills. -/
abbrev sendRect (c : Dev nD) : Rect S512x256 := Rect.unit (k0_off2 c) S256x256.size (k0_off2_inb c)
/-- That square, as the memory reference the transfer names. -/
abbrev landing (c : Dev nD) : Memref sig .tc .vmem S256x256 .bf16 := oBuf.slice (sendRect c) (fun _ => rfl)
/-- The whole of the square to be sent, as it is loaded and stored. -/
abbrev sRect : Rect S256x256 := Rect.unit ![0, 0] S256x256.size inb_S256x256_S256x256_0_0

/-! ## The halves of the result buffer -/

/-- The rows of the result that device `d` held before the exchange. -/
def rowsOf (d : Dev nD) : Finset S512x256.Idx := Finset.univ.filter fun i => (i 0).val / 256 = d.val / 4

theorem mem_rowsOf {d : Dev nD} {i : S512x256.Idx} : i ∈ rowsOf d ↔ (i 0).val / 256 = d.val / 4 := by
  unfold rowsOf; rw [Finset.mem_filter]; exact and_iff_right (Finset.mem_univ i)

/-- A square of 256 rows whose first row is `d`'s first covers `d`'s rows. -/
theorem square_set {off : Fin 2 → ℕ} (inb : ∀ a, off a + S256x256.size a ≤ S512x256.size a) (d : Dev nD)
    (h : off = ![256 * (d.val / 4), 0]) : (Rect.unit (s := S512x256) off S256x256.size inb).set = rowsOf d := by
  subst h
  ext i
  have h1 : (i 1).val < 256 := (i 1).isLt
  rw [Rect.mem_set_unit, mem_rowsOf]
  constructor
  · intro hi
    have h0 : 256 * (d.val / 4) ≤ (i 0).val ∧ (i 0).val < 256 * (d.val / 4) + 256 := hi 0
    omega
  · intro hi a
    fin_cases a
    · show 256 * (d.val / 4) ≤ (i 0).val ∧ (i 0).val < 256 * (d.val / 4) + 256
      omega
    · show 0 ≤ (i 1).val ∧ (i 1).val < 0 + 256
      omega

/-- The transfer of device `c` fills the rows that `c` held. -/
theorem landing_set (c : Dev nD) : (landing c).view.set = rowsOf c :=
  (View.set_slice_whole cc0_stg1_0 (sendRect c)).trans (square_set _ c (k0_off2_eq c))
/-- So does its own store. -/
theorem store_set (c : Dev nD) : (oBuf.access (storeRect c)).set = rowsOf c :=
  (View.set_slice_whole cc0_stg1_0 (storeRect c)).trans (square_set _ c (k0_off4_eq c))

/-- A device's rows and its partner's have none in common, -/
theorem rows_disjoint (c : Dev nD) : Disjoint (rowsOf c) (rowsOf (partner c)) := by
  have hp := partner_block c
  have hc := block_lt c
  refine Finset.disjoint_left.mpr fun i h h' => ?_
  rw [mem_rowsOf] at h h'
  omega
/-- and are all the rows. -/
theorem rows_union (c : Dev nD) : rowsOf c ∪ rowsOf (partner c) = Finset.univ := by
  have hp := partner_block c
  have hc := block_lt c
  ext i
  have hi : (i 0).val < 512 := (i 0).isLt
  rw [Finset.mem_union, mem_rowsOf, mem_rowsOf]
  refine ⟨fun _ => Finset.mem_univ i, fun _ => ?_⟩
  omega

/-! ## What is read and written -/

/-- The contents of the square buffer of device `c` once it is filled, when its block of the argument is `x`. -/
def sent (c : Dev nD) (x : S256x512.Idx → Elt F .bf16) : S256x256.Idx → Elt F .bf16 :=
  k0_pay2 ((xBuf.access (sentRect c)).read (Elt F) x)

/-- The square sent, element by element: the half of the columns that the partner receives. -/
theorem sent_apply (c : Dev nD) (x : S256x512.Idx → Elt F .bf16) (j : S256x256.Idx) (k : S512x256.Idx)
    (h0 : (k 0).val = 256 * (c.val / 4) + (j 0).val) (h1 : (k 1).val = (j 1).val) :
    sent c x j = x (source (partner c) k) := by
  have hp := partner_block c
  have hc := block_lt c
  have hj : (j 0).val < 256 := (j 0).isLt
  unfold sent k0_pay2
  simp only [shapeCast_self]
  show x ((sentRect c).emb j) = x (source (partner c) k)
  congr 1
  funext a
  apply Fin.ext
  have ho := congrFun (k0_off1_eq c) a
  fin_cases a
  · show k0_off1 c 0 + 1 * (j 0).val = (k 0).val % 256
    rw [show k0_off1 c 0 = 0 from ho]
    omega
  · show k0_off1 c 1 + 1 * (j 1).val = 256 * ((partner c).val / 4) + (k 1).val
    rw [show k0_off1 c 1 = 256 - 256 * (c.val / 4) from ho]
    omega

/-- The square kept, element by element: the half of the columns that the device itself receives. -/
theorem kept_apply (c : Dev nD) (x : S256x512.Idx → Elt F .bf16) (j : S256x256.Idx) (k : S512x256.Idx)
    (h0 : (k 0).val = 256 * (c.val / 4) + (j 0).val) (h1 : (k 1).val = (j 1).val) :
    k0_pay1 ((xBuf.access (keptRect c)).read (Elt F) x) j = x (source c k) := by
  have hc := block_lt c
  have hj : (j 0).val < 256 := (j 0).isLt
  unfold k0_pay1
  simp only [shapeCast_self]
  show x ((keptRect c).emb j) = x (source c k)
  congr 1
  funext a
  apply Fin.ext
  have ho := congrFun (k0_off3_eq c) a
  fin_cases a
  · show k0_off3 c 0 + 1 * (j 0).val = (k 0).val % 256
    rw [show k0_off3 c 0 = 0 from ho]
    omega
  · show k0_off3 c 1 + 1 * (j 1).val = 256 * (c.val / 4) + (k 1).val
    rw [show k0_off3 c 1 = 256 * (c.val / 4) from ho]
    omega

/-- An index in a square of the result that starts at `d`'s rows, by its coordinates in the square. -/
theorem square_coords {off : Fin 2 → ℕ} (inb : ∀ a, off a + S256x256.size a ≤ S512x256.size a) (d : Dev nD)
    (h : off = ![256 * (d.val / 4), 0]) (j : S256x256.Idx) :
    (((Rect.unit (s := S512x256) off S256x256.size inb).emb j) 0).val = 256 * (d.val / 4) + (j 0).val
      ∧ (((Rect.unit (s := S512x256) off S256x256.size inb).emb j) 1).val = (j 1).val := by
  subst h
  refine ⟨?_, ?_⟩
  · show 256 * (d.val / 4) + 1 * (j 0).val = _
    omega
  · show 0 + 1 * (j 1).val = _
    omega

/-- After the transfer of device `c`, its partner's result buffer agrees with the exchanged block on the rows that `c` held,
    whatever it held before. -/
theorem landed (x : Dev nD → S256x512.Idx → Elt F .bf16) (c : Dev nD) (f : S512x256.Idx → Elt F .bf16) (i : S512x256.Idx)
    (hi : i ∈ rowsOf c) :
    (landing c).view.write (Elt F) f (sBuf.view.read (Elt F) (sent c (x c))) Finset.univ i = exchanged x (partner c) i := by
  rw [exchanged_other x (partner c) i (by rw [partner_partner]; exact mem_rowsOf.mp hi), partner_partner]
  rw [← landing_set, View.set, Finset.mem_map] at hi
  obtain ⟨j, -, rfl⟩ := hi
  have hj := square_coords (k0_off2_inb c) c (k0_off2_eq c) j
  rw [View.write_emb_of_mem _ _ (Finset.mem_univ j)]
  exact sent_apply c (x c) j _ hj.1 hj.2

/-- After its own store, device `c`'s result buffer agrees with the exchanged block on the rows that `c` held. -/
theorem stored (x : Dev nD → S256x512.Idx → Elt F .bf16) (c : Dev nD) (f : S512x256.Idx → Elt F .bf16) (i : S512x256.Idx)
    (hi : i ∈ rowsOf c) :
    (oBuf.access (storeRect c)).write (Elt F) f (k0_pay1 ((xBuf.access (keptRect c)).read (Elt F) (x c))) Finset.univ i
      = exchanged x c i := by
  rw [exchanged_own x c i (mem_rowsOf.mp hi)]
  rw [← store_set, View.set, Finset.mem_map] at hi
  obtain ⟨j, -, rfl⟩ := hi
  have hj := square_coords (k0_off4_inb c) c (k0_off4_eq c) j
  rw [View.write_emb_of_mem _ _ (Finset.mem_univ j)]
  exact kept_apply c (x c) j _ hj.1 hj.2

/-- Storing the whole square buffer leaves what is stored. -/
theorem filled (f w : S256x256.Idx → Elt F .bf16) :
    (sBuf.access sRect : View sig .tc _ _ _).write (Elt F) f w Finset.univ = w :=
  Memref.write_access_unit_zero_univ (Elt F) cc0_scratch0 (funext fun a => by fin_cases a <;> rfl) _ f w

end Cert.Swap.KernelIdeal

end
-- ==== Proof.Swap.KernelIdeal.Protocol.lean ====
/-
How the devices synchronise.

Each device has three semaphore cells, and each of them is paid once:

  * `0`, the barrier: paid one unit by the partner's signal, which lends the device the rows of the partner's result
    buffer that the device will fill, and says that the partner's arrival cell has begun its round;
  * `1`, the departure: paid by the device's own transfer when the square has been read, which gives the square buffer back;
  * `2`, the arrival: paid by the partner's transfer when it has landed, which gives the lent rows back, filled.

The device that pays a cell is its partner for the barrier and the arrival, itself for the departure. A device that waits on its
barrier still owes its partner the arrival, so arrivals stand above barriers in the order that rules out deadlock.
-/
module

public import proofs.«01_k».proof.Proof.Swap.KernelIdeal.Places
public import proofs.«01_k».proof.Proof.Gen.KernelIdeal.Launch
public import Idealize.ShloMosaic.Lib.Pipeline.Launch
public import Idealize.ShloMosaic.Lib.Tactic

@[expose] public section

noncomputable section

namespace Cert.Swap.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the round algebra for the pipeline's staging cells, one for the three cells above. -/
abbrev Ghost : Type := UR sig nD τ × UR sig nD τ

local notation "𝕄" => MT nD τ sig Unit (Elt F) ℕ Ghost ℕ

/-- The pipeline's copy. -/
abbrev pipeE : Emb (UR sig nD τ) (MT nD τ sig Unit (Elt F) ℕ Ghost ℕ) := embL
/-- The exchange's copy. -/
abbrev swapE : Emb (UR sig nD τ) (MT nD τ sig Unit (Elt F) ℕ Ghost ℕ) := embR

/-! ## The cells -/

/-- The semaphores of the three cells: barrier, departure, arrival. -/
abbrev semAt : Fin 3 → SemLoc sig
  | 0 => .reg (SemArray.scalar (sig.barrier 0 rfl) : Sems sig S_).sem
  | 1 => .dma cc0_scratch1.sem
  | 2 => .dma cc0_scratch2.sem

/-- Device `c`'s cell `k`. -/
abbrev cellAt (p : Dev nD × Fin 3) : GSem nD τ sig := ((p.1 : Thread nD τ), semAt p.2)

/-- Which of the three a semaphore is, if any. -/
def which (s : SemLoc sig) : Option (Fin 3) :=
  if s = semAt 0 then some 0 else if s = semAt 1 then some 1 else if s = semAt 2 then some 2 else none

theorem which_semAt (k : Fin 3) : which (semAt k) = some k := by revert k; decide

theorem semAt_injective : Function.Injective semAt := fun k k' h =>
  Option.some.inj ((which_semAt k).symm.trans ((congrArg which h).trans (which_semAt k')))

/-- Which device's which cell a machine semaphore is, if any. -/
def role (g : GSem nD τ sig) : Option (Dev nD × Fin 3) :=
  if g.1.2 = .tc then (which g.2).map fun k => (g.1.1, k) else none

theorem role_cellAt (p : Dev nD × Fin 3) : role (cellAt p) = some p := by
  unfold role
  rw [if_pos rfl, which_semAt]
  rfl

theorem cellAt_injective : Function.Injective cellAt := fun p p' h =>
  Option.some.inj ((role_cellAt p).symm.trans ((congrArg role h).trans (role_cellAt p')))

/-- What the transfer of one square credits. -/
abbrev square : ℕ := sBuf.view.dmaCredit
theorem square_pos : 0 < square := View.dmaCredit_pos _ (by decide)

/-- The units a cell is paid. -/
abbrev units (k : Fin 3) : ℕ := if k = 0 then 1 else square
theorem units_pos (k : Fin 3) : 0 < units k := by
  unfold units; split
  · exact Nat.one_pos
  · exact square_pos

/-! ## What is handed over -/

/-- Device `c`'s result buffer on the rows `d` held, at contents `f`. -/
def half (c d : Dev nD) (f : S512x256.Idx → Elt F .bf16) : sProp 𝕄 :=
  oBuf.view.loc (c : Thread nD τ) ↦[rowsOf d]{fullShare} f
/-- Device `c`'s square buffer at contents `f`. -/
def squareAt (c : Dev nD) (f : S256x256.Idx → Elt F .bf16) : sProp 𝕄 :=
  sBuf.view.loc (c : Thread nD τ) ↦{fullShare} f

omit [FloatOps F] in
instance half_storable (c d : Dev nD) (f) : BI.Storable (upEmb : UEmb _ 𝕄) (half (F := F) c d f) := by unfold half; infer_instance
omit [FloatOps F] in
instance squareAt_storable (c : Dev nD) (f) : BI.Storable (upEmb : UEmb _ 𝕄) (squareAt (F := F) c f) := by
  unfold squareAt; infer_instance

omit [FloatOps F] in
/-- The whole result buffer is its two halves. -/
theorem halves (c : Dev nD) (f : S512x256.Idx → Elt F .bf16) :
    (oBuf.view.loc (c : Thread nD τ) ↦{fullShare} f : sProp 𝕄) ⊣⊢ iprop(half c c f ∗ half c (partner c) f) := by
  unfold half
  rw [← rows_union c]
  exact pointsTo_union (rows_disjoint c)

variable (x : Dev nD → S256x512.Idx → Elt F .bf16)

/-- What the payment of device `c`'s cell `k` hands to `c`. -/
def handed (c : Dev nD) : Fin 3 → sProp 𝕄
  | 0 => iprop((∃ f, half (partner c) c f) ∗ reached swapE (cellAt (partner c, 2)) 0)
  | 1 => squareAt c (sent c (x c))
  | 2 => half c (partner c) (exchanged x c)

instance handed_storable (c : Dev nD) (k : Fin 3) : BI.Storable (upEmb : UEmb _ 𝕄) (handed (F := F) x c k) := by
  fin_cases k <;> (unfold handed; infer_instance)

/-- The schedule: every cell has one duty, in round 0. -/
def plan : Rounds.Schedule (GSem nD τ sig) Unit 𝕄 where
  duties g r := if r = 0 ∧ (role g).isSome then {()} else ∅
  unitless _ := False
  amount g _ _ := (role g).elim 1 fun p => units p.2
  payload g _ _ := (role g).elim iprop(emp) fun p => handed x p.1 p.2
  amount_pos g _ _ _ := by
    cases role g with
    | none => exact Nat.one_pos
    | some p => exact units_pos p.2

instance plan_storable (g : GSem nD τ sig) (r : ℕ) (d : Unit) : BI.Storable (upEmb : UEmb _ 𝕄) ((plan (F := F) x).payload g r d) := by
  unfold plan
  cases h : role g with
  | none => simp only [h, Option.elim]; infer_instance
  | some p => simp only [h, Option.elim]; infer_instance

theorem plan_duties (p : Dev nD × Fin 3) : (plan x).duties (cellAt p) 0 = {()} := by
  dsimp only [plan]; rw [role_cellAt]; exact if_pos ⟨rfl, rfl⟩
theorem plan_mem (p : Dev nD × Fin 3) : () ∈ (plan x).duties (cellAt p) 0 := by
  rw [plan_duties]; exact Finset.mem_singleton_self _
theorem plan_after (g : GSem nD τ sig) : ∀ r, 1 ≤ r → (plan x).duties g r = ∅ := fun r hr => by
  dsimp only [plan]; exact if_neg fun h => by omega
theorem plan_amount (p : Dev nD × Fin 3) (u : Unit) : (plan x).amount (cellAt p) 0 u = units p.2 := by
  dsimp only [plan]; rw [role_cellAt]; rfl
theorem plan_payload (p : Dev nD × Fin 3) (u : Unit) : (plan x).payload (cellAt p) 0 u = handed x p.1 p.2 := by
  dsimp only [plan]; rw [role_cellAt]; rfl
theorem plan_expect (p : Dev nD × Fin 3) : (plan x).expect (cellAt p) 0 = units p.2 := by
  unfold Schedule.expect Schedule.amountOf
  rw [plan_duties, Finset.sum_singleton, plan_amount]
/-- All that a wait on the cell can still collect, nothing having been collected. -/
theorem plan_rest (p : Dev nD × Fin 3) :
    bigSep ((plan x).duties (cellAt p) 0 \ ∅) (fun u => (plan x).payload (cellAt p) 0 u) = handed x p.1 p.2 := by
  rw [Finset.sdiff_empty, plan_duties, bigSep_singleton, plan_payload]

/-! ## What is owed, and the order of the waits -/

/-- What device `c` owes when its kernel starts: its partner's arrival and its partner's barrier. -/
def debts (c : Dev nD) : CellTallies nD τ sig Unit :=
  tallyAt (cellAt (partner c, 2)) () square + tallyAt (cellAt (partner c, 0)) () 1

/-- Every semaphore of a TensorCore takes part in the order. -/
def ordered (g : GSem nD τ sig) : Finset Unit := if g.1.2 = .tc then {()} else ∅
/-- The levels of the three cells. -/
def rank : Fin 3 → ℕ
  | 0 => 1
  | 1 => 0
  | 2 => 2
/-- The levels: barriers at 1, arrivals at 2, all others at 0. -/
def level (g : GSem nD τ sig) (_ : Unit) : ℕ := (which g.2).elim 0 rank

theorem ordered_tc (c : Dev nD) (s : SemLoc sig) : () ∈ ordered ((c : Thread nD τ), s) := by
  unfold ordered; rw [if_pos rfl]; exact Finset.mem_singleton_self _
theorem ordered_other (g : GSem nD τ sig) (h : g.1.2 ≠ .tc) : ordered g = ∅ := if_neg h
theorem level_cell (p : Dev nD × Fin 3) (u : Unit) : level (cellAt p) u = rank p.2 := by
  unfold level
  rw [which_semAt]
  rfl

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem debts_pos {c : Dev nD} {g : GSem nD τ sig} {u : Unit} (h : 0 < debts c g u) :
    g = cellAt (partner c, 2) ∨ g = cellAt (partner c, 0) := by
  unfold debts at h
  rw [Pi.add_apply, Finsupp.add_apply] at h
  rcases Nat.eq_zero_or_pos ((tallyAt (cellAt (partner c, 2)) () square : CellTallies nD τ sig Unit) g u) with h0 | h0
  · rw [h0, Nat.zero_add] at h; exact Or.inr (tally_pos h)
  · exact Or.inl (tally_pos h0)

omit [FloatOps F] in
/-- While a device owes nothing, or owes both its debts, it may wait on any semaphore that is none of the three. -/
theorem may_wait_staging (c : Dev nD) (s : SemLoc sig) (hs : which s = none) (O : CellTallies nD τ sig Unit)
    (hO : O = debts c ∨ O = 0) : (levAts ordered level : sProp 𝕄) ⊢ MayWait (c : Thread nD τ) s () O := by
  rcases hO with rfl | rfl
  · refine MayOwe.of_cut (L := ordered) (lev := level) 0 (fun q hq => ?_) (fun g u hg => ?_) (fun q hq => ?_) (fun g u hg => ?_)
    · rw [Finset.mem_singleton.mp hq]; exact ordered_tc c s
    · rcases debts_pos hg with rfl | rfl <;> exact ordered_tc _ _
    · rw [Finset.mem_singleton.mp hq]
      show level ((c : Thread nD τ), s) () ≤ 0
      unfold level
      rw [hs]
      exact Nat.le_refl 0
    · rcases debts_pos hg with rfl | rfl
      · rw [level_cell]; exact Nat.succ_pos 1
      · rw [level_cell]; exact Nat.succ_pos 0
  · rw [MayWait_zero]; iintro -; iempintro

omit [FloatOps F] in
/-- A device that owes its partner's arrival only may wait on its barrier. -/
theorem may_wait_barrier (c : Dev nD) :
    (levAts ordered level : sProp 𝕄) ⊢ MayWait (c : Thread nD τ) (semAt 0) () (tallyAt (cellAt (partner c, 2)) () square) := by
  refine MayOwe.of_cut (L := ordered) (lev := level) 1 (fun q hq => ?_) (fun g u hg => ?_) (fun q hq => ?_) (fun g u hg => ?_)
  · rw [Finset.mem_singleton.mp hq]; exact ordered_tc c _
  · rw [tally_pos hg]; exact ordered_tc _ _
  · rw [Finset.mem_singleton.mp hq]
    show level (cellAt (c, 0)) () ≤ 1
    rw [level_cell]; exact Nat.le_refl 1
  · rw [tally_pos hg, level_cell]; exact Nat.lt_succ_self 1

/-! ## What a device starts with -/

/-- The cell `k` that device `c` pays: its partner's, except the departure. -/
def paidBy (p : Dev nD × Fin 3) : Dev nD × Fin 3 := (if p.2 = 1 then p.1 else partner p.1, p.2)

theorem paidBy_paidBy (p : Dev nD × Fin 3) : paidBy (paidBy p) = p := by
  rcases p with ⟨c, k⟩
  unfold paidBy
  by_cases h : k = 1
  · simp only [h, if_true]
  · simp only [if_neg h, partner_partner]

/-- The facts all devices share: every cell is governed by the schedule, under the names `K`, and has begun its round. -/
def shared (K : Dev nD × Fin 3 → ℕ) : sProp 𝕄 :=
  iprop((bigSep Finset.univ fun p : Dev nD × Fin 3 => cellInv swapE (plan x) (K p) (cellAt p))
    ∗ bigSep Finset.univ fun p : Dev nD × Fin 3 => reached swapE (cellAt p) 0)

instance shared_persistent (K : Dev nD × Fin 3 → ℕ) : BI.Persistent (shared x K) := by unfold shared; infer_instance

theorem shared_inv (K : Dev nD × Fin 3 → ℕ) (p : Dev nD × Fin 3) : shared x K ⊢ cellInv swapE (plan x) (K p) (cellAt p) :=
  Laws.sep_and.trans (and_elimL.trans
    (bigSep_elim (Φ := fun p : Dev nD × Fin 3 => cellInv swapE (plan x) (K p) (cellAt p)) (Finset.mem_univ p)))
theorem shared_reached (K : Dev nD × Fin 3 → ℕ) (p : Dev nD × Fin 3) : shared x K ⊢ reached swapE (cellAt p) 0 :=
  Laws.sep_and.trans (and_elimR.trans
    (bigSep_elim (Φ := fun p : Dev nD × Fin 3 => (reached swapE (cellAt p) 0 : sProp 𝕄)) (Finset.mem_univ p)))

/-- What is device `c`'s own: its place at the start of its three cells, and the right to pay the three it pays. -/
def own (c : Dev nD) : sProp 𝕄 :=
  bigSep Finset.univ fun k : Fin 3 => iprop(atPos swapE (cellAt (c, k)) 0 ∅ 0 ∗ dutyTok swapE (cellAt (paidBy (c, k))) 0 ())

/-- Device `c`'s share of the protocol: the common facts and what is its own. -/
def share (c : Dev nD) : sProp 𝕄 := iprop(∃ K, shared x K ∗ own c)

/-- What device `c`'s kernel starts from: that, the credit it may collect, and the order of the waits. -/
def start (c : Dev nD) : sProp 𝕄 :=
  iprop(share x c ∗ cred (tallyAt (cellAt (c, 0)) () 1) ∗ cred (tallyAt (cellAt (c, 2)) () square) ∗ levAts ordered level)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- What is device `c`'s own, cell by cell. -/
theorem own_eq (c : Dev nD) : (own c : sProp 𝕄)
    = iprop((atPos swapE (cellAt (c, 0)) 0 ∅ 0 ∗ dutyTok swapE (cellAt (partner c, 0)) 0 ())
      ∗ (atPos swapE (cellAt (c, 1)) 0 ∅ 0 ∗ dutyTok swapE (cellAt (c, 1)) 0 ())
      ∗ (atPos swapE (cellAt (c, 2)) 0 ∅ 0 ∗ dutyTok swapE (cellAt (partner c, 2)) 0 ())) := by
  unfold own
  rw [bigSep_three]
  rfl

/-- When its one round is over, a cell gives its counter back, at zero. -/
theorem close (K : Dev nD × Fin 3 → ℕ) (p : Dev nD × Fin 3) :
    iprop(shared x K ∗ atPos swapE (cellAt p) (0 + 1) ∅ 0) ⊢ (|={Set.univ}=> semVal (cellAt p) 0 : sProp 𝕄) :=
  (sep_mono_left (shared_inv x K p)).trans
    (Rounds.cell_close swapE (plan x) (Set.mem_univ (K p)) (fun h => h) (R := 0 + 1) (plan_after x (cellAt p)))

end Cert.Swap.KernelIdeal

end
-- ==== Proof.Swap.KernelIdeal.Body.lean ====
/-
The body of the kernel on one device.

The device lends the half of its result buffer that the partner will fill, and gets the partner's in exchange; it copies out the
square it sends, sends it into the borrowed half, and puts the square it keeps into the half that it has not lent; then it waits
until its own square has gone and the partner's has come. At the end it holds the whole exchanged block.
-/
module

public import proofs.«01_k».proof.Proof.Swap.KernelIdeal.Protocol

@[expose] public section

noncomputable section

namespace Cert.Swap.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

/-- There is no device-side recursion: no variants. -/
abbrev noVariants : Variants := Variants.none

variable (x : Dev nD → S256x512.Idx → Elt F .bf16) (K : Dev nD × Fin 3 → ℕ) (c : Dev nD)

/-- What is proved of a program on device `c`: that it runs to its end and then `Q` holds. -/
abbrev runs {α : Type} (p : Prog (TpuEff nD τ sig (Elt F) Λ₀ .tc) α) (Q : α → sProp 𝕄) : sProp 𝕄 :=
  wp frame (wpE (defs₀ (F := F)) noVariants (c : Thread nD τ) none) Set.univ p Q

/-! ## The three synchronising steps -/

/-- The signal to the partner pays its barrier: it costs the half of `c`'s own result buffer that the partner will fill. -/
theorem signal_step {α : Type} {Q : α → sProp 𝕄} {k : PUnit → Prog (TpuEff nD τ sig (Elt F) Λ₀ .tc) α}
    (f : S512x256.Idx → Elt F .bf16) (W : Waits sig Unit) :
    iprop(shared x K ∗ owes (c : Thread nD τ) (debts c) W ∗ dutyTok swapE (cellAt (partner c, 0)) 0 () ∗ half c (partner c) f)
      ⊢ iprop((owes (c : Thread nD τ) (tallyAt (cellAt (partner c, 2)) () square) W -∗ runs c (k ⟨⟩) Q)
          -∗ runs c (.op (.semSignal (partner c : Thread nD τ) (SemArray.scalar (sig.barrier 0 rfl) : Sems sig S_).sem 1) k) Q) := by
  iintro ⟨#HK, HO, Ht, Hh⟩
  ihave #HI := (shared_inv x K (partner c, 0)) $$ HK
  ihave #HB := (shared_reached x K (partner c, 0)) $$ HK
  ihave #HA := (shared_reached x K (c, 2)) $$ HK
  iapply (Rounds.wp_signal noVariants swapE (plan x) (c : Thread nD τ) none (dst := (partner c : Thread nD τ)) (κ := K (partner c, 0))
    (plan_mem x (partner c, 0)) (plan_amount x (partner c, 0) ()) () (tallyAt (cellAt (partner c, 2)) () square) rfl)
  isplitr; · iexact HI
  isplitl [HO]; · iexact HO
  isplitl [Ht]; · iexact Ht
  isplitl [Hh]
  · rw [plan_payload x (partner c, 0)]
    unfold handed
    dsimp only
    rw [partner_partner]
    isplitl [Hh]
    · iexists f; iexact Hh
    · iexact HA
  · iexact HB

/-- A wait for the whole payment of one of `c`'s own cells collects what the payment hands over. -/
theorem wait_step (k : Fin 3) {w : TpuEff nD τ sig (Elt F) Λ₀ .tc PUnit} {n : ℕ}
    (hw : ∀ Φ : PUnit → sProp 𝕄, wpE (defs₀ (F := F)) noVariants (c : Thread nD τ) none Set.univ w Φ
      = waitSpec (c : Thread nD τ) Set.univ (semAt k) n Φ)
    (hn : n = units k) {α : Type} {Q : α → sProp 𝕄} {p : PUnit → Prog (TpuEff nD τ sig (Elt F) Λ₀ .tc) α}
    {O : CellTallies nD τ sig Unit} {W : Waits sig Unit} :
    iprop(shared x K ∗ cred (tallyAt (cellAt (c, k)) () (units k)) ∗ owes (c : Thread nD τ) O W
        ∗ MayWait (c : Thread nD τ) (semAt k) () O ∗ atPos swapE (cellAt (c, k)) 0 ∅ 0)
      ⊢ iprop(((owes (c : Thread nD τ) O (insert (semAt k, ()) W) ∗ atPos swapE (cellAt (c, k)) (0 + 1) ∅ 0 ∗ handed x c k)
            -∗ runs c (p ⟨⟩) Q) -∗ runs c (.op w p) Q) := by
  subst hn
  iintro ⟨#HK, Hc, HO, HM, Hat⟩ Hk
  ihave #HI := (shared_inv x K (c, k)) $$ HK
  iapply (Rounds.wp_wait_rest_token noVariants swapE (plan x) (c : Thread nD τ) none (κ := K (c, k)) hw (Set.mem_univ _) ()
    (O := O) (W := W) (R := 0) (m := 0) (T := ∅) (by rw [Nat.zero_add, plan_expect x (c, k)])) $$ [Hc HO HM Hat]
  · isplitr; · iexact HI
    isplitl [Hc]; · iexact Hc
    isplitl [HO]; · iexact HO
    isplitl [HM]; · iexact HM
    iexact Hat
  iintro ⟨HO, Hat, -, Hp⟩
  ihave Hp := (Entails.of_eq (plan_rest x (c, k))) $$ Hp
  iapply Hk
  isplitl [HO]; · iexact HO
  isplitl [Hat]; · iexact Hat
  iexact Hp

/-- The kernel waits for one unit on its barrier, -/
theorem barrier_units : (1#32 : BitVec 32).toNat = units 0 := rfl
/-- for the credit of its square on its departure, -/
theorem departure_units : sBuf.view.dmaCredit = units 1 := rfl
/-- and for the credit of the square that lands on its arrival. -/
theorem arrival_units : (landing c).view.dmaCredit = units 2 := rfl

/-- The transfer to the partner pays two cells: `c`'s departure, for the square buffer that is read, and the partner's arrival,
    for the borrowed half that is filled. Here `n` is the device as the kernel computes it. -/
theorem send_step (n : Dev nD) (hn : n = partner c)
    {hsc : (landing c : Memref sig (Dev.tc n : Thread nD τ).2.kind .vmem S256x256 .bf16).view.ref.isScScratch = false}
    {hsrc : (sBuf : Memref sig .tc .vmem S256x256 .bf16).view.WordExact} {hdst : (landing c).view.WordExact}
    {hsem : DmaTarget.Typed .vmem (.dma cc0_scratch2.sem) (.remote (Dev.tc n : Thread nD τ) (landing c) (.dma cc0_scratch1.sem) hsc)}
    {α : Type} {Q : α → sProp 𝕄} {k : PUnit → Prog (TpuEff nD τ sig (Elt F) Λ₀ .tc) α}
    (f : S512x256.Idx → Elt F .bf16) (W : Waits sig Unit) :
    iprop(shared x K ∗ squareAt c (sent c (x c)) ∗ half (partner c) c f
        ∗ owes (c : Thread nD τ) (tallyAt (cellAt (partner c, 2)) () square) W
        ∗ dutyTok swapE (cellAt (c, 1)) 0 () ∗ dutyTok swapE (cellAt (partner c, 2)) 0 ())
      ⊢ iprop(((cred (tallyAt (cellAt (c, 1)) () square) ∗ owes (c : Thread nD τ) 0 W) -∗ runs c (k ⟨⟩) Q)
          -∗ runs c (.op (.enqueueDma sBuf (.remote (Dev.tc n : Thread nD τ) (landing c) (.dma cc0_scratch1.sem) hsc)
              (.dma cc0_scratch2.sem) hsrc hdst hsem) k) Q) := by
  subst hn
  iintro ⟨#HK, Hs, Hh, HO, Ht1, Ht2⟩
  ihave #HI1 := (shared_inv x K (c, 1)) $$ HK
  ihave #HI2 := (shared_inv x K (partner c, 2)) $$ HK
  ihave #HB1 := (shared_reached x K (c, 1)) $$ HK
  ihave #HB2 := (shared_reached x K (partner c, 2)) $$ HK
  unfold squareAt half
  rw [← landing_set c]
  have hN : (landing c).view.amount (.dma cc0_scratch2.sem) = square := rfl
  iapply (Rounds.wp_send_pointsTo noVariants swapE (plan x) (c : Thread nD τ) none (κ₁ := K (c, 1)) (κ₂ := K (partner c, 2))
    (r₁ := 0) (r₂ := 0) (d₁ := ()) (d₂ := ()) (fs := sent c (x c)) (fd := f) (plan_mem x (c, 1)) (plan_mem x (partner c, 2)) () () square hN
    (plan_amount x (c, 1) ()) (plan_amount x (partner c, 2) ()) 0 (by rw [zero_add]) (W := W)
    (by rw [plan_payload x (c, 1)]; unfold handed squareAt; rw [View.set_whole])
    (by
      rw [plan_payload x (partner c, 2)]
      unfold handed half
      dsimp only
      rw [partner_partner, landing_set c]
      exact Entails.of_eq (pointsTo_congr fun i hi => landed x c f i hi)))
  isplitr; · iexact HI1
  isplitr; · iexact HI2
  isplitl [Hs]; · rw [View.set_whole]; iexact Hs
  isplitl [Hh]; · iexact Hh
  isplitl [HO]; · iexact HO
  isplitl [Ht1]; · iexact Ht1
  isplitr; · iexact HB1
  isplitl [Ht2]; · iexact Ht2
  iexact HB2

/-! ## The body -/

/-- What the body holds when it starts: the protocol's share, the square buffer, its debts, the staged argument, and the result's
    buffer at contents `g`. -/
def bodyStart (f : S256x256.Idx → Elt F .bf16) (g : S512x256.Idx → Elt F .bf16) (W : Waits sig Unit) : sProp 𝕄 :=
  iprop(start x c ∗ squareAt c f ∗ owes (c : Thread nD τ) (debts c) W
    ∗ (xBuf.view.loc (c : Thread nD τ) ↦{fullShare} x c) ∗ (oBuf.view.loc (c : Thread nD τ) ↦{fullShare} g))

/-- The three cells of device `c`, closed: every counter is zero. -/
def closed : sProp 𝕄 := bigSep Finset.univ fun k : Fin 3 => semVal (cellAt (c, k)) 0

/-- What it holds when it ends: the cells closed, the square buffer, no debts, the staged argument, and the exchanged block. -/
def bodyEnd : sProp 𝕄 :=
  iprop(closed c ∗ squareAt c (sent c (x c)) ∗ (∃ W, owes (c : Thread nD τ) 0 W)
    ∗ (xBuf.view.loc (c : Thread nD τ) ↦{fullShare} x c) ∗ (oBuf.view.loc (c : Thread nD τ) ↦{fullShare} exchanged x c))

set_option maxHeartbeats 1000000 in
/-- The body takes the one to the other. -/
theorem body_runs (f : S256x256.Idx → Elt F .bf16) (g : S512x256.Idx → Elt F .bf16) (W : Waits sig Unit) (Q : PUnit → sProp 𝕄) :
    iprop(bodyStart x c f g W ∗ (bodyEnd x c -∗ Q ⟨⟩))
      ⊢ runs c (cc0_body (F := F) xBuf (Memref.isWhole_whole _) oBuf (Memref.isWhole_whole _) sBuf (Memref.isWhole_whole _)
          cc0_scratch1 cc0_scratch2) Q := by
  simp only [cc0_body_eq_skeleton]
  unfold cc0_body_skel
  simp only [k0_part1_eq_skeleton]
  unfold k0_part1_skel runs
  simp only [semSignalWord, semWaitWord, Prog.lift, Prog.bind_op, Prog.bind_ret, Prog.pure_eq_ret, wp_deviceId, signalled c]
  unfold bodyStart start share
  rw [own_eq]
  iintro ⟨⟨⟨⟨%K, #HK, ⟨Hat0, Ht0⟩, ⟨Hat1, Ht1⟩, ⟨Hat2, Ht2⟩⟩, Hc0, Hc2, #Hlev⟩, Hs, HO, Hx, Ho⟩, Hend⟩
  ihave Hoo := (halves c g).1 $$ Ho
  icases Hoo with ⟨Hown, Hlent⟩
  iapply (signal_step x K c g W) $$ [HO Ht0 Hlent]
  · isplitr; · iexact HK
    isplitl [HO]; · iexact HO
    isplitl [Ht0]; · iexact Ht0
    iexact Hlent
  iintro HO
  iapply (wait_step x K c 0 (wpE_semWait_eq noVariants (c : Thread nD τ) none Set.univ) barrier_units) $$ [Hc0 HO Hat0]
  · isplitr; · iexact HK
    isplitl [Hc0]; · iexact Hc0
    isplitl [HO]; · iexact HO
    isplitr; · iapply (may_wait_barrier c); iexact Hlev
    iexact Hat0
  unfold handed
  iintro ⟨HO, Hat0, ⟨%g', Hborrowed⟩, -⟩
  iapply (wp_load_rect noVariants (c : Thread nD τ) none Set.univ (m := xBuf) (r := sentRect c) (Finset.subset_univ _)) $$ Hx
  iintro Hx
  unfold squareAt
  iapply (wp_load noVariants (c : Thread nD τ) none Set.univ (m := sBuf) (Finset.subset_univ _)) $$ Hs
  iintro Hs
  iapply (wp_store noVariants (c : Thread nD τ) none Set.univ (m := sBuf) (r := sRect) (Mk := Finset.univ) (Finset.subset_univ _)) $$ Hs
  iintro Hs
  rw [filled]
  iapply (send_step x K c _ (addressed c) g' _) $$ [Hs Hborrowed HO Ht1 Ht2]
  · isplitr; · iexact HK
    isplitl [Hs]; · unfold squareAt sent; iexact Hs
    isplitl [Hborrowed]; · iexact Hborrowed
    isplitl [HO]; · iexact HO
    isplitl [Ht1]; · iexact Ht1
    iexact Ht2
  iintro ⟨Hc1, HO⟩
  iapply (wp_load_rect noVariants (c : Thread nD τ) none Set.univ (m := xBuf) (r := keptRect c) (Finset.subset_univ _)) $$ Hx
  iintro Hx
  unfold half
  iapply (wp_load_rect noVariants (c : Thread nD τ) none Set.univ (m := oBuf) (r := storeRect c) (by rw [store_set c])) $$ Hown
  iintro Hown
  iapply (wp_store noVariants (c : Thread nD τ) none Set.univ (m := oBuf) (r := storeRect c) (Mk := Finset.univ) (by
    show (oBuf.access (storeRect c)).set ⊆ _
    rw [store_set c])) $$ Hown
  iintro Hown
  ihave Hown := (Entails.of_eq (pointsTo_congr fun i hi => stored x c g i hi)) $$ Hown
  iapply (wait_step x K c 1 (n := sBuf.view.dmaCredit) (wpE_waitDma2_eq noVariants (c : Thread nD τ) none Set.univ) departure_units) $$ [Hc1 HO Hat1]
  · isplitr; · iexact HK
    isplitl [Hc1]; · iexact Hc1
    isplitl [HO]; · iexact HO
    isplitr; · rw [MayWait_zero]; iempintro
    iexact Hat1
  iintro ⟨HO, Hat1, Hs⟩
  iapply (wait_step x K c 2 (n := (landing c).view.dmaCredit) (wpE_waitDma2_eq noVariants (c : Thread nD τ) none Set.univ) (arrival_units c)) $$ [Hc2 HO Hat2]
  · isplitr; · iexact HK
    isplitl [Hc2]; · iexact Hc2
    isplitl [HO]; · iexact HO
    isplitr; · rw [MayWait_zero]; iempintro
    iexact Hat2
  iintro ⟨HO, Hat2, Hback⟩
  imod (close x K (c, 0)) $$ [Hat0] with Hz0
  · isplitr; · iexact HK
    iexact Hat0
  imod (close x K (c, 1)) $$ [Hat1] with Hz1
  · isplitr; · iexact HK
    iexact Hat1
  imod (close x K (c, 2)) $$ [Hat2] with Hz2
  · isplitr; · iexact HK
    iexact Hat2
  rw [wp_ret]
  imodintro
  iapply Hend
  unfold bodyEnd closed
  rw [bigSep_three]
  isplitl [Hz0 Hz1 Hz2]
  · isplitl [Hz0]; · iexact Hz0
    isplitl [Hz1]; · iexact Hz1
    iexact Hz2
  isplitl [Hs]; · unfold handed; iexact Hs
  isplitl [HO]; · iexists _; iexact HO
  isplitl [Hx]; · iexact Hx
  iapply (halves c (exchanged x c)).2
  unfold half handed half
  isplitl [Hown]; · iexact Hown
  iexact Hback

end Cert.Swap.KernelIdeal

end
-- ==== Proof.Swap.KernelIdeal.Deal.lean ====
/-
How the launch deals the protocol out.

At the launch every cell's counter is zero and nobody has anything. The ghost state is minted cell by cell; all the cells are put
under their invariants together, since two devices touch each barrier and each arrival; and the right to pay a cell goes to the
device that will pay it, which is an exchange of the devices with their partners.
-/
module

public import proofs.«01_k».proof.Proof.Swap.KernelIdeal.Body

@[expose] public section

noncomputable section

namespace Cert.Swap.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (x : Dev nD → S256x512.Idx → Elt F .bf16)

/-- The part of a conjunction over all cells that belongs to device `c`. -/
def ofDevice (Φ : Dev nD × Fin 3 → sProp 𝕄) (c : Dev nD) : sProp 𝕄 := bigSep Finset.univ fun k : Fin 3 => Φ (c, k)

omit [FloatOps F] in
theorem bigSep_ofDevice (Φ : Dev nD × Fin 3 → sProp 𝕄) : bigSep Finset.univ (ofDevice Φ) = bigSep Finset.univ Φ :=
  (bigSep_univ_prod Φ).symm

/-! ## Minting -/

/-- All the cells. -/
def allCells : Finset (GSem nD τ sig) := Finset.univ.map ⟨cellAt, cellAt_injective⟩
/-- The right to pay each of them. -/
def allRights : Finset (GSem nD τ sig × ℕ × Unit) :=
  Finset.univ.map ⟨fun p : Dev nD × Fin 3 => (cellAt p, 0, ()), fun _ _ h => cellAt_injective (congrArg Prod.fst h)⟩

/-- What is minted for a cell: its state, its owner's place, the fact that it has begun, and the right to pay it. -/
def mintedAt (p : Dev nD × Fin 3) : sProp 𝕄 :=
  iprop(roundState swapE (plan x) (cellAt p) 0 ∗ reached swapE (cellAt p) 0 ∗ atPos swapE (cellAt p) 0 ∅ 0
    ∗ dutyTok swapE (cellAt p) 0 ())

/-- The initial ghost state becomes that, for every cell. -/
theorem mint : BI.own (swapE (initOf allCells allRights)) ⊢ (|==> bigSep Finset.univ (ofDevice (mintedAt x)) : sProp 𝕄) := by
  refine (Rounds.fund swapE (plan x) allCells allRights).trans (BI.bupd_mono ?_)
  rw [bigSep_ofDevice]
  unfold allCells allRights mintedAt
  simp only [bigSep_map, bigSep_sep']
  exact BI.Entails.refl _

/-! ## The counters -/

/-- The semaphores that belong to the kernel: departure and arrival. -/
abbrev kernelSems : Fin 2 → SemLoc sig
  | 0 => semAt 1
  | 1 => semAt 2

omit [FloatOps F] in
/-- With the barrier, which outlives the kernel, they are the three cells of the device. -/
theorem counters (c : Dev nD) :
    iprop(unscopedSems0 c ∗ Pipeline.ownSems0 (Ix := Unit) (Name := ℕ) (U := Ghost) (Lvl := ℕ) (Val := Elt F) (τ := τ) kernelSems c)
      = (closed c : sProp 𝕄) := by
  unfold unscopedSems0 closed
  rw [Pipeline.ownSems0_eq_of_list c kernelSems [0, 1] (by decide) (by decide),
    bigSep_eq_bigSepL_of_eq [semAt 0] (by decide) (by decide), bigSep_three]
  rfl

/-! ## Dealing -/

/-- A cell at zero and its state go under the cell's invariant. -/
theorem govern (p : Dev nD × Fin 3) :
    iprop(semVal (cellAt p) 0 ∗ roundState swapE (plan x) (cellAt p) 0)
      ⊢ (|={Set.univ}=> iprop(∃ κ : ℕ, cellInv swapE (plan x) κ (cellAt p)) : sProp 𝕄) :=
  (Rounds.body_intro swapE (plan x) (cellAt p)).trans inv_alloc

/-- All at once. -/
theorem govern_all :
    iprop((bigSep Finset.univ fun p : Dev nD × Fin 3 => semVal (cellAt p) 0)
        ∗ bigSep Finset.univ fun p : Dev nD × Fin 3 => roundState swapE (plan x) (cellAt p) 0)
      ⊢ (|={Set.univ}=> iprop(∃ K : Dev nD × Fin 3 → ℕ, bigSep Finset.univ fun p => cellInv swapE (plan x) (K p) (cellAt p)) : sProp 𝕄) := by
  rw [← bigSep_sep']
  exact ((bigSep_mono fun p _ => govern x p).trans (bigSep_fupd _ _)).trans (BI.fupd_mono
    (BI.bigSep_exists_pi Finset.univ fun (p : Dev nD × Fin 3) (κ : ℕ) => (cellInv swapE (plan x) κ (cellAt p) : sProp 𝕄)))

/-- The payers, as a permutation of the cells. -/
def payers : Dev nD × Fin 3 ≃ Dev nD × Fin 3 := ⟨paidBy, paidBy, paidBy_paidBy, paidBy_paidBy⟩

omit [FloatOps F] in
/-- Every device gets its places and the rights that it will use. -/
theorem own_all :
    iprop((bigSep Finset.univ fun p : Dev nD × Fin 3 => atPos swapE (cellAt p) 0 ∅ 0)
        ∗ bigSep Finset.univ fun p : Dev nD × Fin 3 => dutyTok swapE (cellAt p) 0 ())
      ⊢ (bigSep Finset.univ fun c => own c : sProp 𝕄) := by
  rw [bigSep_univ_equiv payers fun p : Dev nD × Fin 3 => (dutyTok swapE (cellAt p) 0 () : sProp 𝕄), ← bigSep_sep', bigSep_univ_prod]
  exact BI.Entails.refl _

/-- What all share, with each device's own, is every device's share. -/
theorem share_all (K : Dev nD × Fin 3 → ℕ) :
    iprop(shared x K ∗ bigSep Finset.univ fun c => own c) ⊢ (bigSep Finset.univ (share x) : sProp 𝕄) := by
  refine (Laws.sep_mono_left (BI.bigSep_of_persistent (Finset.univ : Finset (Dev nD)) (shared x K))).trans ?_
  rw [← bigSep_sep']
  refine bigSep_mono fun c _ => (?_ : iprop(shared x K ∗ own c) ⊢ share x c)
  unfold share
  iintro H
  iexists K
  iexact H

/-- The launch's step: from the counters at zero and what was minted to every device's share. -/
theorem deal :
    (bigSep Finset.univ fun c => iprop(Pipeline.ownSems0 (Ix := Unit) (Name := ℕ) (U := Ghost) (Lvl := ℕ) (Val := Elt F) (τ := τ) kernelSems c
        ∗ unscopedSems0 c ∗ ofDevice (mintedAt x) c) : sProp 𝕄)
      ⊢ |={Set.univ}=> bigSep Finset.univ (share x) := by
  have hc : (bigSep Finset.univ fun c => iprop(Pipeline.ownSems0 (Ix := Unit) (Name := ℕ) (U := Ghost) (Lvl := ℕ) (Val := Elt F) (τ := τ) kernelSems c
        ∗ unscopedSems0 c ∗ ofDevice (mintedAt x) c) : sProp 𝕄)
      ⊢ iprop((bigSep Finset.univ fun p : Dev nD × Fin 3 => semVal (cellAt p) 0) ∗ bigSep Finset.univ (mintedAt x)) := by
    rw [← bigSep_ofDevice (fun p => semVal (cellAt p) 0), ← bigSep_ofDevice (mintedAt x), ← bigSep_sep']
    refine bigSep_mono fun c _ => (?_ : _ ⊢ iprop(ofDevice (fun p => semVal (cellAt p) 0) c ∗ ofDevice (mintedAt x) c))
    iintro ⟨Ho, Hu, Hm⟩
    ihave Hc := (Entails.of_eq (counters c)) $$ [Ho Hu]
    · isplitl [Hu]; · iexact Hu
      iexact Ho
    isplitl [Hc]; · unfold closed ofDevice; iexact Hc
    iexact Hm
  refine hc.trans ?_
  unfold mintedAt
  simp only [bigSep_sep']
  iintro ⟨Hz, Hst, #Hr, Hat, Htok⟩
  imod (govern_all x) $$ [Hz Hst] with ⟨%K, #HI⟩
  · isplitl [Hz]; · iexact Hz
    iexact Hst
  imodintro
  iapply (share_all x K)
  isplitr
  · unfold shared
    isplitr; · iexact HI
    iexact Hr
  iapply (own_all (F := F))
  isplitl [Hat]; · iexact Hat
  iexact Htok

/-! ## The credit -/

omit [FloatOps F] in
/-- A device may collect what the others owe to its cells: one unit on its barrier, and the square on its arrival. -/
theorem credit (c : Dev nD) :
    (Pipeline.launchCred debts c : sProp 𝕄)
      ⊢ iprop(cred (tallyAt (cellAt (c, 0)) () 1) ∗ cred (tallyAt (cellAt (c, 2)) () square)) := by
  unfold debts
  rw [Pipeline.launchCred_add (fun d => tallyAt (cellAt (partner d, 2)) () square) (fun d => tallyAt (cellAt (partner d, 0)) () 1) c]
  iintro ⟨H2, H0⟩
  isplitl [H0]
  · iapply (Pipeline.launchCred_tallyAt (semAt 0) partner partner partner_partner partner_partner () 1 c)
    iexact H0
  · iapply (Pipeline.launchCred_tallyAt (semAt 2) partner partner partner_partner partner_partner () square c)
    iexact H2

end Cert.Swap.KernelIdeal

end
-- ==== Proof.Swap.KernelIdeal.Launch.lean ====
/-
The run of the whole mesh.

The launch stages each device's row block, runs the body on every device and writes the staged result back. The body's theorem
fills its one obligation; the protocol, dealt out once for the mesh, fills its opening. Of the final state the run says that each
device's result is the exchanged block of the arguments the launch found, that its argument is as it was, and that every counter
is at zero.
-/
module

public import proofs.«01_k».proof.Proof.Swap.KernelIdeal.Deal
public import Idealize.ShloMosaic.Lib.Pipeline.Kit
public import Idealize.ShloMosaic.Lib.Pipeline.CollectiveSegs
public import Idealize.ShloMosaic.Lib.Pipeline.ValueKit.Geometry

@[expose] public section

noncomputable section

namespace Cert.Swap.KernelIdeal

open Cert.KernelIdeal Cert.KernelIdeal.Gen
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ) (ρ : Dev nD → PrngReg)

/-- The state of the launch: any memory, every counter at zero. -/
def initial : MemSt nD τ sig (Elt F) := ⟨m, fun _ => 0, ρ⟩

/-- The row blocks the launch finds. -/
def argument (c : Dev nD) : S256x512.Idx → Elt F .bf16 := m ((c : Thread nD τ).loc main_arg0)

/-! ## The body as the launch asks for it -/

/-- Before the body: the device's start, and its square at any contents. -/
def before (c : Dev nD) : sProp 𝕄 := iprop(start (argument m) c ∗ ∃ f, squareAt c f)
/-- After it: the counters at zero, and the square as it was sent. -/
def after (c : Dev nD) : sProp 𝕄 := iprop(closed c ∗ squareAt c (sent c (argument m c)))

/-- What the launch is told of each device: what its arrays hold, what its staged blocks hold after the body, and what it owes. -/
def account (_ : Fin 1) (c : Dev nD) : Dat τ (Elt F) Unit ℕ Ghost ℕ cfg0 c where
  A w := m ((cfg0.win w).arr.view.loc (c : Thread nD τ))
  after w _ := match w with
    | ⟨0, _⟩ => argument m c
    | ⟨1, _⟩ => exchanged (argument m) c
  Φ t := match t with
    | ⟨0, _⟩ => before m c
    | ⟨_ + 1, _⟩ => after m c
  q _ := fullShare
  owed t := match t with
    | ⟨0, _⟩ => debts c
    | ⟨_ + 1, _⟩ => 0

/-- A staged block held whole with known contents. -/
def staged (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

omit [FloatOps F] in
theorem staged_eq (c : Dev nD) (b : Ref sig .tc) (X : Buf (Elt F) ((c : Thread nD τ).loc b)) :
    (owns (Ix := Unit) (Name := ℕ) (U := Ghost) (Lvl := ℕ) c (Memref.whole b) fullShare X : sProp 𝕄) = staged c b X := by
  unfold owns staged; simp only [Memref.view_whole, View.read_whole, View.set_whole]

/-- The argument's block is fetched before the body. -/
theorem fetched (c : Dev nD) (d : S256x512.Idx → Elt F .bf16) : (account m 0 c).before (0 : Fin 2) t0_0 d = argument m c := by
  unfold Dat.before
  rw [if_pos (show (cfg0.win (0 : Fin 2)).fetch t0_0 = true from rfl)]
  funext j
  refine congrArg (m ((c : Thread nD τ).loc main_arg0)) (?_ : (win0_0.blk (0 : Fin 1)).view.emb j = j)
  funext a
  refine Fin.ext ?_
  fin_cases a
  · show 0 + 1 * (j 0).val = (j 0).val
    omega
  · show 0 + 1 * (j 1).val = (j 1).val
    omega

set_option maxRecDepth 4000 in
/-- The body meets the launch's obligation. -/
theorem obligation (c : Dev nD) : BodyObligation (account (F := F) m 0 c) (defs₀ (F := F)) noVariants () Set.univ := fun t => by
  rw [fin_N0 t, bigSep_W0, bigSep_W0]
  simp only [staged_eq]
  show iprop(before m c ∗ (account m 0 c).owesAt () t0_0.castSucc
      ∗ (∃ d, staged c cc0_stg0_0 ((account m 0 c).before (0 : Fin 2) t0_0 d))
      ∗ (∃ d, staged c cc0_stg1_0 ((account m 0 c).before (1 : Fin 2) t0_0 d)))
    ⊢ runs c (cc0_body xBuf (Memref.isWhole_whole _) oBuf (Memref.isWhole_whole _) sBuf (Memref.isWhole_whole _) cc0_scratch1 cc0_scratch2)
      (fun _ => iprop(after m c ∗ (account m 0 c).owesAt () t0_0.succ
        ∗ staged c cc0_stg0_0 (argument m c) ∗ staged c cc0_stg1_0 (exchanged (argument m) c)))
  unfold before Dat.owesAt Pipeline.owesWithin staged
  iintro ⟨⟨Hstart, ⟨%f, Hs⟩⟩, ⟨%W, -, HO⟩, ⟨%d, %u, %hu, Hx⟩, ⟨%d', %g, -, Ho⟩⟩
  have hx : u = argument m c := hu.trans (fetched m c d)
  rw [hx]
  iapply (body_runs (argument m) c f g W _)
  isplitl [Hstart Hs HO Hx Ho]
  · unfold bodyStart
    isplitl [Hstart]; · iexact Hstart
    isplitl [Hs]; · iexact Hs
    isplitl [HO]; · iexact HO
    isplitl [Hx]; · iexact Hx
    iexact Ho
  unfold bodyEnd after
  iintro ⟨Hz, Hs, ⟨%W', HO⟩, Hx, Ho⟩
  isplitl [Hz Hs]
  · isplitl [Hz]; · iexact Hz
    iexact Hs
  isplitl [HO]
  · iexists W'
    isplitr; · ipureintro; exact fun _ _ => Or.inl trivial
    iexact HO
  isplitl [Hx]
  · iexists _
    isplitr; · (ipureintro; rfl)
    iexact Hx
  iexists _
  isplitr; · (ipureintro; rfl)
  iexact Ho

/-! ## The launch's conditions -/

theorem kernel_sems : Pipeline.OwnSemFacts cfg0.spec kernelSems := by decide

theorem share_full (c : Dev nD) (w : Fin cfg0.W) : (account m 0 c).share w = fullShare := by unfold Dat.share; split <;> rfl

/-- The ghost state of the launch: the staging's, and the protocol's. -/
def ghost₀ : Ghost :=
  (initOf (Pipeline.cells cfgs cellOf_inj) (Pipeline.launchToks cfgs cellOf_inj), initOf allCells allRights)

theorem enter (c : Dev nD) :
    iprop(Pipeline.unscopedRestP Pipeline.Prefetch.none cfg0.spec c (fun b => m ((c : Thread nD τ).loc b)) ∗ levAts ordered level
        ∗ Pipeline.launchCred debts c ∗ prngReg c (ρ c) ∗ share (argument m) c)
      ⊢ |={Set.univ}=> iprop(start (argument m) c ∗ emp) := by
  iintro ⟨-, Hlev, Hcr, -, Hsh⟩
  ihave ⟨H0, H2⟩ := (credit (F := F) c) $$ Hcr
  imodintro
  unfold start
  isplitl
  · isplitl [Hsh]; · iexact Hsh
    isplitl [H0]; · iexact H0
    isplitl [H2]; · iexact H2
    iexact Hlev
  · iempintro

theorem opening (c : Dev nD) :
    iprop(start (argument m) c ∗ Pipeline.prefHeld Pipeline.Prefetch.none c (fun _ => fullShare.right) (fun k => k.elim0) ∗ Pipeline.scopedRest cfg0.spec c)
      ⊢ (account m 0 c).Φ 0 := by
  rw [show (account m 0 c).Φ 0 = before m c from rfl, scopedRest0_eq]
  unfold before squareAt
  iintro ⟨Hs, -, ⟨%f, Hr⟩⟩
  isplitl [Hs]; · iexact Hs
  iexists f
  iexact Hr

theorem closing (c : Dev nD) :
    (account m 0 c).Φ (Fin.last cfg0.N) ⊢ iprop(unscopedSems0 c ∗ Pipeline.ownSems0 kernelSems c ∗ Pipeline.scopedRest cfg0.spec c) := by
  rw [show (account m 0 c).Φ (Fin.last cfg0.N) = after m c from rfl, scopedRest0_eq]
  unfold after squareAt
  rw [← counters]
  iintro ⟨⟨Hu, Ho⟩, Hr⟩
  isplitl [Hu]; · iexact Hu
  isplitl [Ho]; · iexact Ho
  iexists _
  iexact Hr

theorem staging_waits (c : Dev nD) : (levAts ordered level : sProp 𝕄) ⊢ Pipeline.cellsWaits cfgs (account m) () 0 c :=
  Pipeline.cellsWaits_intro cfgs (account m) () 0 c fun w s t =>
    may_wait_staging c _ (by fin_cases w <;> fin_cases s <;> decide) _ (by
      rcases t with ⟨_ | _, ht⟩
      · exact Or.inl rfl
      · exact Or.inr rfl)

/-! ## The run -/

set_option maxRecDepth 8000 in
/-- Every run from `initial` ends, with each device's arrays as `account` says and every counter at zero. -/
theorem run_account : θ_run defs (onTc (τ := τ) (main (F := F))) (initial m ρ) (fun r =>
    (∀ c : Dev nD, ∀ w : Fin cfg0.W, r.2.mem ((cfg0.win w).arr.view.loc (c : Thread nD τ)) = (account m 0 c).arrAt w cfg0.N)
      ∧ r.2.sem = fun _ => 0) :=
  Pipeline.θ_run_region_owing_glob_pf (fun p => (cfgs p).toPCfg) (fun p => (cfgs p).toPCfg_adm) (account m) () cellOf_inj (0 : Fin 1)
    winFacts0.to₀ kernel_sems (Pipeline.PreFacts.none _) pipeE defs₀ noVariants m ρ main
    (hmain := fun _ => rfl)
    (hbody := obligation m) (hne := fun w => by fin_cases w <;> exact Nat.succ_pos _) (harr := arr_whole0) (hstage := stage_whole0)
    (hshare := share_full m) (hdistinct := winFacts0.arr_inj)
    (O₀ := debts) (howed₀ := fun _ => rfl) (howedN := fun _ => rfl)
    (L := ordered) (lv := level) (hL := ordered_other) (hwaits := staging_waits m)
    (G := ofDevice (mintedAt (argument m))) (G' := share (argument m)) (u₀ := ghost₀)
    (hu₀ := by
      unfold ghost₀
      iintro Hu
      ihave ⟨HP, HX⟩ := (ownU_pair _ _) $$ Hu
      imod (mint (argument m)) $$ HX with HG
      imodintro
      isplitl [HP] <;> iassumption)
    (hglob := deal (argument m))
    (hA := fun _ _ => rfl) (hpf := fun _ k => k.elim0)
    (X := start (argument m)) (Y := fun c => unscopedSems0 c) (Z := fun _ => iprop(emp))
    (hX := enter m ρ) (hin := opening m) (hout := closing m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it was. -/
theorem account_argument (c : Dev nD) : (account m 0 c).arrAt (0 : Fin 2) cfg0.N = argument m c :=
  (account m 0 c).arrAt_in (0 : Fin 2) rfl _

/-- The result's array ends as the exchanged block. -/
theorem account_result (c : Dev nD) : (account m 0 c).arrAt (1 : Fin 2) cfg0.N = exchanged (argument m) c :=
  Dat.arrAt_eq_of_after_last (account m 0 c) (1 : Fin 2) t0_0 (by decide +kernel) (exchanged (argument m) c) (fun _ => rfl)

/-- Every run from any memory ends; then each device's result is its exchanged block of the arguments, its argument is as it was,
and every counter is at zero. -/
theorem run : θ_run defs (onTc (τ := τ) (main (F := F))) ⟨m, fun _ => 0, ρ⟩ (fun r =>
    (∀ c : Dev nD, r.2.mem ((c.tc : Thread nD τ).loc main_v1) = exchanged (argument m) c)
      ∧ (∀ c : Dev nD, r.2.mem ((c.tc : Thread nD τ).loc main_arg0) = m ((c.tc : Thread nD τ).loc main_arg0))
      ∧ r.2.sem = fun _ => 0) :=
  (θ_run defs _ _).mono
    (fun _ h => ⟨fun c => (h.1 c (1 : Fin 2)).trans (account_result m c), fun c => (h.1 c (0 : Fin 2)).trans (account_argument m c), h.2⟩)
    (run_account m ρ)

end Cert.Swap.KernelIdeal

end
-- ==== Proof.Swap.KernelIdeal.Result.lean ====
/-
The run, against one array.

If the devices' arguments are the row blocks of one array, then their results are its column blocks.
-/
module

public import proofs.«01_k».proof.Proof.Swap.KernelIdeal.Launch

@[expose] public section

noncomputable section

namespace Cert.Swap.KernelIdeal

open Cert.KernelIdeal Cert.KernelIdeal.Gen
open Idealize.ShloMosaic Idealize.SL.Sem

variable {F : FTy → Type} [FloatOps F]

variable (m : (ℓ : Loc nD τ sig) → Buf (Elt F) ℓ) (ρ : Dev nD → PrngReg)

/-- Every run ends, with the arguments as they were and every counter at zero. -/
theorem run_keeps : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => h.2) (run m ρ)

/-- Every run from the row blocks of an array `X` ends with the column blocks of `X` as the results, and the arguments as they
were. -/
theorem run_reshards (X : Entire.Idx → Elt F .bf16)
    (hX : ∀ c : Dev nD, m ((c.tc : Thread nD τ).loc main_arg0) = Layout.blockN RowBlock Entire (Layout.meshBlock [2, 2, 2] ![[0], []] c) X) :
    θ_run defs (onTc (τ := τ) (main (F := F))) ⟨m, fun _ => 0, ρ⟩ (fun r => ∀ c : Dev nD,
      r.2.mem ((c.tc : Thread nD τ).loc main_v1) = Layout.blockN ColBlock Entire (Layout.meshBlock [2, 2, 2] ![[], [0]] c) X
      ∧ r.2.mem ((c.tc : Thread nD τ).loc main_arg0) = m ((c.tc : Thread nD τ).loc main_arg0)) := by
  have hx : argument m = fun d => Layout.blockN RowBlock Entire (Layout.meshBlock [2, 2, 2] ![[0], []] d) X := funext hX
  refine (θ_run defs _ _).mono (fun _ h c => ⟨(h.1 c).trans ?_, h.2.1 c⟩) (run m ρ)
  rw [hx]
  exact exchanged_blocks X c

end Cert.Swap.KernelIdeal

end
-- ==== Proof.Swap.Reference.Run.lean ====
/-
The run of the reference.

The reference returns its argument, so its program has no operation at all.
-/
module

public import proofs.«01_k».proof.Proof.Gen.Reference
public import Idealize.ShloMosaic.Lib.StableHlo.Run
public import Idealize.ShloMosaic.Lib.Quiescent

@[expose] public section

noncomputable section

namespace Cert.Swap.Reference

open Cert.Reference Cert.Reference.Gen
open Idealize.ShloMosaic Idealize.ShloMosaic.StableHlo Idealize.SL.Sem

variable {F : FTy → Type} [FloatOps F]

/-- Every run ends, with the array as it was and every counter at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.Swap.Reference

end
-- ==== Proof.Swap.ReferenceIdeal.Run.lean ====
/-
The run of the reference.

The reference returns its argument, so its program has no operation at all.
-/
module

public import proofs.«01_k».proof.Proof.Gen.ReferenceIdeal
public import Idealize.ShloMosaic.Lib.StableHlo.Run
public import Idealize.ShloMosaic.Lib.Quiescent

@[expose] public section

noncomputable section

namespace Cert.Swap.ReferenceIdeal

open Cert.ReferenceIdeal Cert.ReferenceIdeal.Gen
open Idealize.ShloMosaic Idealize.ShloMosaic.StableHlo Idealize.SL.Sem

variable {F : FTy → Type} [FloatOps F]

/-- Every run ends, with the array as it was and every counter at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.Swap.ReferenceIdeal

end
-- ==== Proof.lean ====
/-
The proof of the claim.

The kernel is proved once for any float values, in `Proof/Swap/Kernel/` for the kernel as it is and in `Proof/Swap/KernelIdeal/`
for its idealization, which is the same text. Here the first is read at the bits and the second at the ideal values, each beside
the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Swap.Kernel.Result
public import proofs.«01_k».proof.Proof.Swap.KernelIdeal.Result
public import proofs.«01_k».proof.Proof.Swap.Reference.Run
public import proofs.«01_k».proof.Proof.Swap.ReferenceIdeal.Run
public import Idealize.ShloMosaic.Adequacy
public import Idealize.ShloMosaic.Init

@[expose] public section

noncomputable section

namespace Cert.Proof

open Idealize.ShloMosaic Idealize.SL.Sem Cert.Kernel

/-- The kernel runs, keeps its argument and leaves every counter at zero. -/
theorem frame_kernel : Cert.quiescent_Kernel := fun m g _ => Cert.Swap.Kernel.run_keeps m g

/-- So does its idealization. -/
theorem frame_kernelIdeal : Cert.quiescent_KernelIdeal := fun m g _ => Cert.Swap.KernelIdeal.run_keeps m g

/-- So does the reference at the ideal values. -/
theorem frame_referenceIdeal : Cert.quiescent_ReferenceIdeal := fun m g _ => Cert.Swap.ReferenceIdeal.run m g

/-- So does the reference at the bits. -/
theorem frame_reference : Cert.quiescent_Reference := fun m g _ => Cert.Swap.Reference.run m g

/-- At the ideal values the kernel's results are the column blocks of what the reference returns. -/
theorem algebraic : Cert.algebraic_KernelIdeal_ReferenceIdeal := fun m g m' g' _ hX =>
  ⟨_, Cert.Swap.KernelIdeal.run_reshards m g _ hX,
    (θ_run Cert.ReferenceIdeal.defs _ _).mono (fun _ h => ⟨h.1 0, h.1 0⟩) (Cert.Swap.ReferenceIdeal.run m' g')⟩

/-- At the bits they are so too, bit for bit. -/
theorem bitexact : Cert.bitexact_Kernel_Reference := fun m g m' g' _ hX =>
  ⟨_, Cert.Swap.Kernel.run_reshards m g _ hX,
    (θ_run Cert.Reference.defs _ _).mono (fun _ h => ⟨h.1 0, h.1 0⟩) (Cert.Swap.Reference.run m' g')⟩

/-- Everything that is claimed. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
